-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x8192x128 : Shape := ⟨3, ![8, 8192, 128]⟩
abbrev S2048x8192 : Shape := ⟨2, ![2048, 8192]⟩
abbrev S8x2048x128 : Shape := ⟨3, ![8, 2048, 128]⟩
abbrev S8192x1024 : Shape := ⟨2, ![8192, 1024]⟩
abbrev S2x8x1024x128 : Shape := ⟨4, ![2, 8, 1024, 128]⟩
abbrev S3x256x8192 : Shape := ⟨3, ![3, 256, 8192]⟩
abbrev S2x8x256x128 : Shape := ⟨4, ![2, 8, 256, 128]⟩
abbrev S2 : Shape := ⟨1, ![2]⟩
abbrev S3 : Shape := ⟨1, ![3]⟩
abbrev S1 : Shape := ⟨1, ![1]⟩
abbrev S_ : Shape := ⟨0, ![]⟩
abbrev S1x256x8192 : Shape := ⟨3, ![1, 256, 8192]⟩
abbrev S256x8192 : Shape := ⟨2, ![256, 8192]⟩
abbrev S1x8x1024x128 : Shape := ⟨4, ![1, 8, 1024, 128]⟩
abbrev S8x1024x128 : Shape := ⟨3, ![8, 1024, 128]⟩
abbrev S1x1x1024x128 : Shape := ⟨4, ![1, 1, 1024, 128]⟩
abbrev S1024x128 : Shape := ⟨2, ![1024, 128]⟩
abbrev S1024x1024 : Shape := ⟨2, ![1024, 1024]⟩
abbrev S256x1024 : Shape := ⟨2, ![256, 1024]⟩
abbrev S256x128 : Shape := ⟨2, ![256, 128]⟩
abbrev S1x1x256x128 : Shape := ⟨4, ![1, 1, 256, 128]⟩
abbrev S8x256x128 : Shape := ⟨3, ![8, 256, 128]⟩
abbrev S1x8x256x128 : Shape := ⟨4, ![1, 8, 256, 128]⟩

abbrev nBuf : Space → Nat
  | .hbm => 3
  | .vmem => 4
  | .smem => 0
  | _ => 0

abbrev bufTy : (tb : Table) → Fin (tcTables nBuf tb) → BufTy
  | .hbm, ⟨0, _⟩ => ⟨S8x8192x128, .f32⟩
  | .hbm, ⟨1, _⟩ => ⟨S2048x8192, .f32⟩
  | .hbm, ⟨2, _⟩ => ⟨S8x2048x128, .f32⟩
  | .local _ .vmem, ⟨0, _⟩ => ⟨S8192x1024, .bf16⟩
  | .local _ .vmem, ⟨1, _⟩ => ⟨S2x8x1024x128, .f32⟩
  | .local _ .vmem, ⟨2, _⟩ => ⟨S3x256x8192, .f32⟩
  | .local _ .vmem, ⟨3, _⟩ => ⟨S2x8x256x128, .f32⟩
  | _, _ => ⟨S8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩

abbrev nD : Nat := 1
abbrev τ : Topo := Topo.v7x

variable {F : FTy → Type} [FloatOps F]

abbrev grid0 : Pipeline.Grid := ⟨1, ![1], ![false]⟩
-- ==== ReferenceIdeal.lean ====
abbrev S8x8192x128 : Shape := ⟨3, ![8, 8192, 128]⟩
abbrev S2048x8192 : Shape := ⟨2, ![2048, 8192]⟩
abbrev S8x128x2048 : Shape := ⟨3, ![8, 128, 2048]⟩
abbrev S8x2048x128 : Shape := ⟨3, ![8, 2048, 128]⟩

abbrev nBuf : Space → Nat
  | .hbm => 4
  | .vmem => 0
  | .smem => 0
  | _ => 0

abbrev bufTy : (tb : Table) → Fin (tcTables nBuf tb) → BufTy
  | .hbm, ⟨0, _⟩ => ⟨S8x8192x128, .f32⟩
  | .hbm, ⟨1, _⟩ => ⟨S2048x8192, .f32⟩
  | .hbm, ⟨2, _⟩ => ⟨S8x128x2048, .f32⟩
  | .hbm, ⟨3, _⟩ => ⟨S8x2048x128, .f32⟩
  | _, _ => ⟨S8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelFrame.lean ====
module

public import proofs.«01_k».proof.Proof.Gen.Kernel.Frame
public import proofs.«01_k».proof.Proof.KernelRun

/-!
  The frame of the kernel as printed: it terminates, nothing faults, both arguments end unchanged and every semaphore
  counter ends at zero.  What the result holds is not said here.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch -/

/-- The arguments, which the body only reads. -/
def H0 : Finset (Ref sig .tc) := {main_arg0, main_arg1}
/-- The result, which the body's own transfers write. -/
def R0 : Finset (Ref sig .tc) := {main_v0}
/-- No window stages either argument. -/
theorem H0_sub : H0 ⊆ Pipeline.restRefs sig cfg0.spec := by decide
/-- No window stages the result, and it is neither argument. -/
theorem R0_sub : R0 ⊆ Pipeline.restRefs sig cfg0.spec \ H0 := by decide

/-- The program is its one region, entered with the buffers as launched. -/
theorem hmainR (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The body's seven transfer cells. -/
abbrev osem0 : Fin 7 → SemLoc sig := fun j => SemLoc.dma (![0, 1, 2, 3, 4, 5, 6] j)
/-- The body's own semaphores are distinct, and none is a window's. -/
theorem ownSemFacts0 : Pipeline.OwnSemFacts cfg0.spec osem0 := by decide

/-- The seven cells at zero, one by one. -/
theorem ownSems0_list (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0
          ∗ semVal ((c : Thread nD τ), SemLoc.dma 2) 0 ∗ semVal ((c : Thread nD τ), SemLoc.dma 3) 0
          ∗ semVal ((c : Thread nD τ), SemLoc.dma 4) 0 ∗ semVal ((c : Thread nD τ), SemLoc.dma 5) 0
          ∗ semVal ((c : Thread nD τ), SemLoc.dma 6) 0) := by
  rw [Pipeline.ownSems0_eq_of_list c osem0 [0, 1, 2, 3, 4, 5, 6] (by decide) (by decide)]; rfl

/-- The two arguments as launched, one by one. -/
theorem argPts (c : Dev nD) :
    (bigSep H0 (fun b => ((c : Thread nD τ).loc b) ↦{fullShare} V m c b) : sProp 𝕄)
      = iprop(hbPt c mX (V m c main_arg0) ∗ hbPt c mT (V m c main_arg1)) := by
  rw [BI.bigSep_eq_bigSepL_of_eq [main_arg0, main_arg1] (by decide) (by decide)]; rfl

/-- The result, held at some contents. -/
theorem resPts (c : Dev nD) : (Pipeline.owned R0 c : sProp 𝕄) = iprop(∃ f, hbPt c mO f) := by
  unfold Pipeline.owned; rw [BI.bigSep_eq_bigSepL_of_eq [main_v0] (by decide) (by decide)]; rfl

/-- The scoped buffers the body finds: the four scratch buffers, each at some contents. -/
theorem scratchPts (c : Dev nD) :
    (Pipeline.scopedRest (Ix := Unit) (Name := ℕ) (U := Pipeline.UD sig nD τ) (Lvl := ℕ) (Val := Elt F) cfg0.spec c : sProp 𝕄)
      = iprop((∃ f, hbPt c mXt f) ∗ (∃ f, hbPt c mC f) ∗ (∃ f, hbPt c mTb f) ∗ (∃ f, hbPt c mOb f)) := by
  rw [scopedRest0_eq]

/-- The body as the region calls it at a grid point. -/
theorem defs₀_row (t : Fin cfg0.N) :
    defs₀ (F := F) .tc cfg0.body (cfg0.bodyArgs t (cfg0.slots t)) = bodyAt0 t := by
  unfold defs₀; rw [Defs.onTc_tc]

/-- What the body keeps between steps: the scratch buffers, the generator register, the cells at zero, the arguments, the result. -/
theorem inv_eq (c : Dev nD) :
    (Pipeline.ΦDR osem0 cfg0.spec H0 R0 (V m) c : sProp 𝕄)
      = iprop(((∃ f, hbPt c mXt f) ∗ (∃ f, hbPt c mC f) ∗ (∃ f, hbPt c mTb f) ∗ (∃ f, hbPt c mOb f)) ∗ (∃ r, prngReg c r)
          ∗ (semVal ((c : Thread nD τ), SemLoc.dma 0) 0 ∗ semVal ((c : Thread nD τ), SemLoc.dma 1) 0
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ semVal ((c : Thread nD τ), SemLoc.dma 6) 0)
          ∗ (hbPt c mX (V m c main_arg0) ∗ hbPt c mT (V m c main_arg1)) ∗ (∃ f, hbPt c mO f)) := by
  rw [Pipeline.ΦDR_eq, scratchPts, ownSems0_list, argPts, resPts]

/-- The proof data of the launch: no windows, the same invariant throughout. -/
def dats (_ : Fin 1) (c : Dev nD) : Dat τ (Elt F) Unit ℕ (Pipeline.UD sig nD τ) ℕ cfg0 c where
  A w := V m c (Pipeline.arrRef cfg0.spec w)
  after w t := w.elim0
  Φ _ := Pipeline.ΦDR osem0 cfg0.spec H0 R0 (V m) c
  q _ := fullShare
  owed _ := 0

/-- Each window's array starts at its launch contents. -/
theorem A_eq (c : Dev nD) (w : Fin cfg0.W) : (dats m 0 c).A w = V m c (Pipeline.arrRef cfg0.spec w) := by
  dsimp only [dats]

/-- The body keeps the invariant. -/
theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t)
          (fun _ => iprop((dats m 0 c).Φ t.succ ∗ (dats m 0 c).owesAt () t.succ)) := by
  unfold bodyAt0
  rw [show (dats m 0 c).Φ t.succ = (dats m 0 c).Φ t.castSucc from rfl,
    show (dats m 0 c).Φ t.castSucc = Pipeline.ΦDR osem0 cfg0.spec H0 R0 (V m) c from rfl, inv_eq]
  unfold Dat.owesAt Pipeline.owesWithin
  rw [show (dats m 0 c).owed t.castSucc = 0 from rfl, show (dats m 0 c).owed t.succ = 0 from rfl]
  iintro ⟨⟨⟨⟨%f0, B0⟩, ⟨%f1, B1⟩, ⟨%f2, B2⟩, ⟨%f3, B3⟩⟩, Hg, ⟨S0, S1, S2, S3, S4, S5, S6⟩, ⟨HX, HT⟩, ⟨%fo, HO⟩⟩, ⟨%W, -, HW⟩⟩
  iapply ((kernelRun c t (V m c main_arg1) (V m c main_arg0) fo f0 f1 f2 f3).2 W _)
  isplitl [HT]; · iexact HT
  isplitl [HX]; · iexact HX
  isplitl [HO]; · iexact HO
  isplitl [B0]; · iexact B0
  isplitl [B1]; · iexact B1
  isplitl [B2]; · iexact B2
  isplitl [B3]; · iexact B3
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [HW]; · iexact HW
  iintro ⟨HT, HX, HO, B0, B1, B2, B3, S0, S1, S2, S3, S4, S5, S6, ⟨%W', HW'⟩⟩
  isplitl [HT HX HO B0 B1 B2 B3 Hg S0 S1 S2 S3 S4 S5 S6]
  · isplitl [B0 B1 B2 B3]
    · isplitl [B0]; · iexact B0
      isplitl [B1]; · iexact B1
      isplitl [B2]; · iexact B2
      iexact B3
    isplitl [Hg]; · iexact Hg
    isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    isplitl [HX HT]
    · isplitl [HX]; · iexact HX
      iexact HT
    iexists _; iexact HO
  iexists W'; isplitr; · ipureintro; exact fun _ _ => Or.inl trivial
  iexact HW'

/-- The body's obligation at every grid point. -/
theorem body_obligation (c : Dev nD) : BodyObligation (dats (F := F) m 0 c) (defs₀ (F := F)) Variants.none () Set.univ := fun t => by
  rw [defs₀_row]
  refine triple_restated (sound_body m c t) rfl ?_ fun _ => ?_
  · iintro ⟨HI, HW, -⟩
    isplitl [HI]; · iexact HI
    iexact HW
  · rw [show (Finset.univ : Finset (Fin cfg0.W)) = ∅ from rfl, bigSep_empty]
    iintro ⟨HI, HW⟩
    isplitl [HI]; · iexact HI
    isplitl [HW]; · iexact HW
    iempintro

set_option backward.isDefEq.respectTransparency.types false in
/-- The whole program's run: the arguments and every counter as at the start. -/
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainR m Variants.none) (hA := A_eq m)
    (hin := fun _ => .rfl) (hout := fun _ => .rfl)

/-- The frame: the program terminates without fault, its arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c).2 main_arg0 (Finset.mem_sdiff.mpr ⟨Pipeline.mem_restRefs_of main_arg0 (by decide) (by decide), by decide⟩),
      (h.1 c).2 main_arg1 (Finset.mem_sdiff.mpr ⟨Pipeline.mem_restRefs_of main_arg1 (by decide) (by decide), by decide⟩)⟩, h.2⟩)
    (run_main m ρ)

end Cert.Kernel.Hand

end
-- ==== Proof.Run.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Tactic

/-!
  One grid step of the kernel, run symbolically: whatever the scratch buffers and the result hold on entry, the body
  terminates, leaves both arguments as they were, returns every transfer cell to zero, and leaves the result at
  contents that `kernelRun` names.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The operands as the body takes them: `transform`, `x`, the result, then the four scratch buffers (the merged `x` panel,
    the double-buffered chunks of `x`, the row blocks of `transform`, the staged output blocks). -/
abbrev mT : Memref sig .tc .hbm S2048x8192 .f32 := Memref.whole main_arg1
abbrev mX : Memref sig .tc .hbm S8x8192x128 .f32 := Memref.whole main_arg0
abbrev mO : Memref sig .tc .hbm S8x2048x128 .f32 := Memref.whole main_v0
abbrev mXt : Memref sig .tc .vmem S8192x1024 .bf16 := Memref.whole cc0_scratch0
abbrev mC : Memref sig .tc .vmem S2x8x1024x128 .f32 := Memref.whole cc0_scratch1
abbrev mTb : Memref sig .tc .vmem S3x256x8192 .f32 := Memref.whole cc0_scratch2
abbrev mOb : Memref sig .tc .vmem S2x8x256x128 .f32 := Memref.whole cc0_scratch3

/-- The contents of a whole buffer on core `c`. -/
abbrev HbBuf (c : Dev nD) {sp : Space} {S : Shape} {e : EltTy} (M : Memref sig .tc sp S e) : Type := Buf (Elt F) (M.view.loc (c : Thread nD τ))
/-- A whole buffer held at given contents. -/
abbrev hbPt (c : Dev nD) {sp : Space} {S : Shape} {e : EltTy} (M : Memref sig .tc sp S e) (f : HbBuf (F := F) c M) : sProp 𝕄 :=
  M.view.loc (c : Thread nD τ) ↦{fullShare} f

set_option maxHeartbeats 0 in
set_option sl_exec.dmaWindow true in
/-- The body's run from any contents: the result's final contents beside the proof that the run reaches them. -/
def kernelRun (c : Dev nD) (t : Fin cfg0.N) (ft : HbBuf (F := F) c mT) (fx : HbBuf (F := F) c mX) (fo : HbBuf (F := F) c mO)
    (f0 : HbBuf (F := F) c mXt) (f1 : HbBuf (F := F) c mC) (f2 : HbBuf (F := F) c mTb) (f3 : HbBuf (F := F) c mOb) :
    { g : HbBuf (F := F) c mO // ∀ (W : Waits sig Unit) (K : PUnit → sProp 𝕄),
      iprop(hbPt c mT ft ∗ hbPt c mX fx ∗ hbPt c mO fo ∗ hbPt c mXt f0 ∗ hbPt c mC f1 ∗ hbPt c mTb f2 ∗ hbPt c mOb f3
        ∗ semVal ((c : Thread nD τ), SemLoc.dma 0) 0 ∗ semVal ((c : Thread nD τ), SemLoc.dma 1) 0
        ∗ semVal ((c : Thread nD τ), SemLoc.dma 2) 0 ∗ semVal ((c : Thread nD τ), SemLoc.dma 3) 0
        ∗ semVal ((c : Thread nD τ), SemLoc.dma 4) 0 ∗ semVal ((c : Thread nD τ), SemLoc.dma 5) 0
        ∗ semVal ((c : Thread nD τ), SemLoc.dma 6) 0
        ∗ owes (c : Thread nD τ) 0 W
        ∗ (iprop(hbPt c mT ft ∗ hbPt c mX fx ∗ hbPt c mO g
            ∗ (∃ f, hbPt c mXt f) ∗ (∃ f, hbPt c mC f) ∗ (∃ f, hbPt c mTb f) ∗ (∃ f, hbPt c mOb f)
            ∗ semVal ((c : Thread nD τ), SemLoc.dma 0) 0 ∗ semVal ((c : Thread nD τ), SemLoc.dma 1) 0
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ semVal ((c : Thread nD τ), SemLoc.dma 6) 0
            ∗ (∃ W', owes (c : Thread nD τ) 0 W')) -∗ K ⟨⟩))
      ⊢ wp frame (wpE (defs₀ (F := F)) Variants.none c none) Set.univ
          (cc0__body (grid0.coords t) mT (Memref.isWhole_whole _) mX (Memref.isWhole_whole _) mO (Memref.isWhole_whole _)
            mXt (Memref.isWhole_whole _) mC (Memref.isWhole_whole _) mTb (Memref.isWhole_whole _) mOb (Memref.isWhole_whole _)
            cc0_scratch4 cc0_scratch5 cc0_scratch6) K } := by
  refine ⟨?_, fun W K => ?_⟩
  rotate_left
  · simp only [cc0__body_eq_skeleton]; unfold cc0__body_skel
    iintro ⟨HT, HX, HO, HXt, HC, HTb, HOb, S0, S1, S2, S3, S4, S5, S6, HW, Hk⟩
    sl_exec
    sl_step
    iapply Hk
    isplitl [HT]; · iexact HT
    isplitl [HX]; · iexact HX
    isplitl [HO]; · iexact HO
    isplitl [HXt]; · iexists _; iexact HXt
    isplitl [HC]; · iexists _; iexact HC
    isplitl [HTb]; · iexists _; iexact HTb
    isplitl [HOb]; · iexists _; iexact HOb
    isplitl [S0]; · iexact S0
    isplitl [S1]; · iexact S1
    isplitl [S2]; · iexact S2
    isplitl [S3]; · iexact S3
    isplitl [S4]; · iexact S4
    isplitl [S5]; · iexact S5
    isplitl [S6]; · iexact S6
    iexists _; iexact HW

end Cert.KernelIdeal.Hand

end
-- ==== Proof.Slots.lean ====
module

public import proofs.«01_k».proof.Proof.Run
public import Idealize.ShloMosaic.Lib.MatmulPlain
public import Idealize.ShloMosaic.Lib.ValueIdx
public import Idealize.ShloMosaic.Lib.Pipeline.Value

/-!
  What the idealized kernel's buffers hold, in terms of natural-number coordinates: the two arguments as functions of
  naturals, and what a slot of each scratch buffer holds after the transfers and stores that fill it.  Each fact is stated
  for any slot, any chunk and any row block.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

/-! ## The arguments at natural-number coordinates -/

/-- `transform` at a row and a column; zero outside the array. -/
def tN (T : S2048x8192.Idx → EReal) (r v : ℕ) : EReal := if h : r < 2048 ∧ v < 8192 then T (ix2 ⟨r, h.1⟩ ⟨v, h.2⟩) else 0
/-- `x` at a batch, a row and a channel; zero outside the array. -/
def xN (X : S8x8192x128.Idx → EReal) (b v l : ℕ) : EReal :=
  if h : b < 8 ∧ v < 8192 ∧ l < 128 then X (ix3 ⟨b, h.1⟩ ⟨v, h.2.1⟩ ⟨l, h.2.2⟩) else 0

/-- An entry of `transform` named by its two coordinates as naturals. -/
theorem tN_eq (T : S2048x8192.Idx → EReal) (y : S2048x8192.Idx) {r v : ℕ} (h0 : (y 0).val = r) (h1 : (y 1).val = v) :
    T y = tN T r v := by
  subst h0 h1
  have h0 : (y 0).val < 2048 := (y 0).isLt
  have h1 : (y 1).val < 8192 := (y 1).isLt
  unfold tN; rw [dif_pos ⟨h0, h1⟩]; exact congrArg T (eq_ix2 y)
/-- An entry of `x` named by its three coordinates as naturals. -/
theorem xN_eq (X : S8x8192x128.Idx → EReal) (y : S8x8192x128.Idx) {b v l : ℕ} (h0 : (y 0).val = b) (h1 : (y 1).val = v)
    (h2 : (y 2).val = l) : X y = xN X b v l := by
  subst h0 h1 h2
  have h0 : (y 0).val < 8 := (y 0).isLt
  have h1 : (y 1).val < 8192 := (y 1).isLt
  have h2 : (y 2).val < 128 := (y 2).isLt
  unfold xN; rw [dif_pos ⟨h0, h1, h2⟩]; exact congrArg X (eq_ix3 y)

/-- The first `n` terms of the contraction of row `R` of `transform` with batch `b`, channel `l` of `x`. -/
def part (T : S2048x8192.Idx → EReal) (X : S8x8192x128.Idx → EReal) (n b R l : ℕ) : EReal :=
  ∑ k ∈ Finset.range n, tN T R k * xN X b k l

variable {c : Dev nD}

/-! ## The chunks of `x` -/

/-- A transferred chunk of `x` is the 1024 rows from `o`. -/
theorem chunk_apply (fx : HbBuf (F := Ideal) c mX) (o : ℕ) (inb) (hs) (y : S8x1024x128.Idx) :
    (ReadAs.same.apply ((mX.slice (Rect.unit ![0, o, 0] S8x1024x128.size inb) hs).view.read (Elt Ideal) fx) : S8x1024x128.Idx → EReal) y
      = xN fx (y 0).val (o + (y 1).val) (y 2).val :=
  xN_eq fx ((Rect.unit (s := S8x8192x128) ![0, o, 0] S8x1024x128.size inb).emb y)
    (show 0 + 1 * (y 0).val = _ by omega) (show o + 1 * (y 1).val = _ by omega) (show 0 + 1 * (y 2).val = _ by omega)

/-- A transferred row block of `transform` is the 256 rows from `o`. -/
theorem block_apply (ft : HbBuf (F := Ideal) c mT) (o : ℕ) (inb) (hs) (y : S256x8192.Idx) :
    (ReadAs.same.apply ((mT.slice (Rect.unit ![o, 0] S256x8192.size inb) hs).view.read (Elt Ideal) ft) : S256x8192.Idx → EReal) y
      = tN ft (o + (y 0).val) (y 1).val :=
  tN_eq ft ((Rect.unit (s := S2048x8192) ![o, 0] S256x8192.size inb).emb y)
    (show o + 1 * (y 0).val = _ by omega) (show 0 + 1 * (y 1).val = _ by omega)

/-- A whole-slot write to the chunk buffer, read back: the payload in that slot, the old contents elsewhere. -/
theorem chunkSlot_write (s : ℕ) (inb) (hs) (hq) (f : HbBuf (F := Ideal) c mC) (w : S8x1024x128.Idx → EReal) (y : S2x8x1024x128.Idx) :
    mC.view.read (Elt Ideal) (View.write (Elt Ideal)
        ((mC.slice (Rect.unit ![s, 0, 0, 0] S1x8x1024x128.size inb) hs).squeeze S8x1024x128 hq).view f w Finset.univ) y
      = if (y 0).val = s then w (ix3 (⟨(y 1).val, (y 1).isLt⟩ : Fin 8) (⟨(y 2).val, (y 2).isLt⟩ : Fin 1024) (⟨(y 3).val, (y 3).isLt⟩ : Fin 128)) else mC.view.read (Elt Ideal) f y := by
  refine (congrArg (fun g => mC.view.read (Elt Ideal) g y) (View.write_reshape_univ (mC.view.slice (Rect.unit (s := S2x8x1024x128) ![s, 0, 0, 0] S1x8x1024x128.size inb)) hq.numel_eq f w)).trans ?_
  split_ifs with h
  · have e : (Rect.unit (s := S2x8x1024x128) ![s, 0, 0, 0] S1x8x1024x128.size inb).emb
        (ix4 (⟨0, by decide⟩ : Fin 1) (⟨(y 1).val, (y 1).isLt⟩ : Fin 8) (⟨(y 2).val, (y 2).isLt⟩ : Fin 1024) (⟨(y 3).val, (y 3).isLt⟩ : Fin 128) : S1x8x1024x128.Idx) = y := by
      apply Rect.emb_eq_of_coords; intro a
      match a with
      | ⟨0, _⟩ => show (y 0).val = s + 1 * 0; omega
      | ⟨1, _⟩ => show (y 1).val = 0 + 1 * (y 1).val; omega
      | ⟨2, _⟩ => show (y 2).val = 0 + 1 * (y 2).val; omega
      | ⟨3, _⟩ => show (y 3).val = 0 + 1 * (y 3).val; omega
    conv_lhs => rw [← e]
    refine (View.read_slice_write_emb _ _ _ (Finset.mem_univ _)).trans (congrArg w ?_)
    rw [Equiv.symm_apply_eq]
    exact ((Shape.reshapeEquiv_cons_one (d := ![8, 1024, 128]) _ _).trans (funext fun a => by
      match a with | ⟨0, _⟩ => rfl | ⟨1, _⟩ => rfl | ⟨2, _⟩ => rfl | ⟨3, _⟩ => rfl)).symm
  · refine View.read_slice_write_of_not_mem _ _ _ _ fun hm => ?_
    rw [Rect.map_emb_univ, Rect.mem_set_unit] at hm
    have h0 : s ≤ (y 0).val ∧ (y 0).val < s + 1 := hm 0
    omega

/-- A whole-slot write to the row-block buffer, read back: the payload in that slot, the old contents elsewhere. -/
theorem blockSlot_write (s : ℕ) (inb) (hs) (hq) (f : HbBuf (F := Ideal) c mTb) (w : S256x8192.Idx → EReal) (y : S3x256x8192.Idx) :
    mTb.view.read (Elt Ideal) (View.write (Elt Ideal)
        ((mTb.slice (Rect.unit ![s, 0, 0] S1x256x8192.size inb) hs).squeeze S256x8192 hq).view f w Finset.univ) y
      = if (y 0).val = s then w (ix2 (⟨(y 1).val, (y 1).isLt⟩ : Fin 256) (⟨(y 2).val, (y 2).isLt⟩ : Fin 8192)) else mTb.view.read (Elt Ideal) f y := by
  refine (congrArg (fun g => mTb.view.read (Elt Ideal) g y) (View.write_reshape_univ (mTb.view.slice (Rect.unit (s := S3x256x8192) ![s, 0, 0] S1x256x8192.size inb)) hq.numel_eq f w)).trans ?_
  split_ifs with h
  · have e : (Rect.unit (s := S3x256x8192) ![s, 0, 0] S1x256x8192.size inb).emb
        (ix3 (⟨0, by decide⟩ : Fin 1) (⟨(y 1).val, (y 1).isLt⟩ : Fin 256) (⟨(y 2).val, (y 2).isLt⟩ : Fin 8192) : S1x256x8192.Idx) = y := by
      apply Rect.emb_eq_of_coords; intro a
      match a with
      | ⟨0, _⟩ => show (y 0).val = s + 1 * 0; omega
      | ⟨1, _⟩ => show (y 1).val = 0 + 1 * (y 1).val; omega
      | ⟨2, _⟩ => show (y 2).val = 0 + 1 * (y 2).val; omega
    conv_lhs => rw [← e]
    refine (View.read_slice_write_emb _ _ _ (Finset.mem_univ _)).trans (congrArg w ?_)
    rw [Equiv.symm_apply_eq]
    exact ((Shape.reshapeEquiv_cons_one (d := ![256, 8192]) _ _).trans (funext fun a => by
      match a with | ⟨0, _⟩ => rfl | ⟨1, _⟩ => rfl | ⟨2, _⟩ => rfl)).symm
  · refine View.read_slice_write_of_not_mem _ _ _ _ fun hm => ?_
    rw [Rect.map_emb_univ, Rect.mem_set_unit] at hm
    have h0 : s ≤ (y 0).val ∧ (y 0).val < s + 1 := hm 0
    omega

/-- Slot `s` of the chunk buffer holds the 1024 rows of `x` from `o`. -/
def ChunkIn (X : S8x8192x128.Idx → EReal) (s o : ℕ) (f : HbBuf (F := Ideal) c mC) : Prop :=
  ∀ y : S2x8x1024x128.Idx, (y 0).val = s → (mC.view.read (Elt Ideal) f y : EReal) = xN X (y 1).val (o + (y 2).val) (y 3).val
/-- Slot `s` of the row-block buffer holds the 256 rows of `transform` from `o`. -/
def BlockIn (T : S2048x8192.Idx → EReal) (s o : ℕ) (f : HbBuf (F := Ideal) c mTb) : Prop :=
  ∀ y : S3x256x8192.Idx, (y 0).val = s → (mTb.view.read (Elt Ideal) f y : EReal) = tN T (o + (y 1).val) (y 2).val

/-- A chunk's transfer fills its slot. -/
theorem chunkIn_here (fx : HbBuf (F := Ideal) c mX) (s o : ℕ) (inb) (hs) (hq) (inb') (hs') (f : HbBuf (F := Ideal) c mC) :
    ChunkIn (c := c) fx s o (View.write (Elt Ideal)
      ((mC.slice (Rect.unit ![s, 0, 0, 0] S1x8x1024x128.size inb) hs).squeeze S8x1024x128 hq).view f
      (ReadAs.same.apply ((mX.slice (Rect.unit ![0, o, 0] S8x1024x128.size inb') hs').view.read (Elt Ideal) fx)) Finset.univ) := fun y h => by
  rw [chunkSlot_write, if_pos h]; exact chunk_apply fx o inb' hs' _
/-- A transfer to another slot leaves the slot alone. -/
theorem chunkIn_other {X : S8x8192x128.Idx → EReal} {s s' o : ℕ} {inb} {hs} {hq} {f : HbBuf (F := Ideal) c mC} {w}
    (hne : s ≠ s') (h : ChunkIn X s o f) :
    ChunkIn (c := c) X s o (View.write (Elt Ideal)
      ((mC.slice (Rect.unit ![s', 0, 0, 0] S1x8x1024x128.size inb) hs).squeeze S8x1024x128 hq).view f w Finset.univ) := fun y hy => by
  rw [chunkSlot_write, if_neg (by omega)]; exact h y hy
/-- A row block's transfer fills its slot. -/
theorem blockIn_here (ft : HbBuf (F := Ideal) c mT) (s o : ℕ) (inb) (hs) (hq) (inb') (hs') (f : HbBuf (F := Ideal) c mTb) :
    BlockIn (c := c) ft s o (View.write (Elt Ideal)
      ((mTb.slice (Rect.unit ![s, 0, 0] S1x256x8192.size inb) hs).squeeze S256x8192 hq).view f
      (ReadAs.same.apply ((mT.slice (Rect.unit ![o, 0] S256x8192.size inb') hs').view.read (Elt Ideal) ft)) Finset.univ) := fun y h => by
  rw [blockSlot_write, if_pos h]; exact block_apply ft o inb' hs' _
/-- A transfer to another slot leaves the slot alone. -/
theorem blockIn_other {T : S2048x8192.Idx → EReal} {s s' o : ℕ} {inb} {hs} {hq} {f : HbBuf (F := Ideal) c mTb} {w}
    (hne : s ≠ s') (h : BlockIn T s o f) :
    BlockIn (c := c) T s o (View.write (Elt Ideal)
      ((mTb.slice (Rect.unit ![s', 0, 0] S1x256x8192.size inb) hs).squeeze S256x8192 hq).view f w Finset.univ) := fun y hy => by
  rw [blockSlot_write, if_neg (by omega)]; exact h y hy

/-! ## The merged panel of `x` -/

/-- The panel's entry at a row `v` and a column `n`: batch `n / 128`, channel `n % 128` of row `v` of `x`. -/
def panel (X : S8x8192x128.Idx → EReal) (y : S8192x1024.Idx) : EReal := xN X ((y 1).val / 128) (y 0).val ((y 1).val % 128)

/-- A store's payload holds the panel's entries over its own rectangle. -/
def Band (X : S8x8192x128.Idx → EReal) (r : Rect S8192x1024) (p : r.shape.Idx → EReal) : Prop := ∀ x, p x = panel X (r.emb x)

/-- A loaded batch of a chunk holds batch `b` of the rows of `x` from `o`. -/
def Batch (X : S8x8192x128.Idx → EReal) (b o : ℕ) (t : S1x1x1024x128.Idx → EReal) : Prop :=
  ∀ z : S1x1x1024x128.Idx, t z = xN X b (o + (z 2).val) (z 3).val

/-- A load of one batch of the slot that holds the rows from `o`. -/
theorem batch_load {X : S8x8192x128.Idx → EReal} {s b o : ℕ} {inb} {f : HbBuf (F := Ideal) c mC} (h : ChunkIn X s o f) :
    Batch X b o (View.readAt (Elt Ideal) mC.view (Rect.unit (s := S2x8x1024x128) ![s, b, 0, 0] S1x1x1024x128.size inb).toLoadRect f) := fun z => by
  have h0 : (z 0).val < 1 := (z 0).isLt
  have h1 : (z 1).val < 1 := (z 1).isLt
  rw [View.readAt_apply]
  refine (h _ (show s + 1 * (z 0).val = s by omega)).trans ?_
  show xN X (b + 1 * (z 1).val) (o + (0 + 1 * (z 2).val)) (0 + 1 * (z 3).val) = _
  congr 1 <;> omega

/-- A stored piece holds panel entries: one batch, converted, at its own columns. -/
theorem band_ok {X : S8x8192x128.Idx → EReal} {b o n : ℕ} {inb'} {h₁} {h₂} {h₃} {t : FVec Ideal S1x1x1024x128 .f32}
    (h : Batch X b o t) (hn : n = 128 * b) :
    Band X (Rect.unit (s := S8192x1024) ![o, n] S1024x128.size inb')
      (shapeCast S1024x128 (truncf (F := Ideal) .bf16 (shapeCast S1024x128 t h₁ : FVec Ideal S1024x128 .f32) h₂) h₃) := fun x => by
  rw [shapeCast_self]
  have h1 : (x 1).val < 128 := (x 1).isLt
  show (shapeCast S1024x128 t h₁ x : EReal) = _
  rw [shapeCast_apply _ h₁ x (ix4 (⟨0, by decide⟩ : Fin 1) (⟨0, by decide⟩ : Fin 1) (⟨(x 0).val, (x 0).isLt⟩ : Fin 1024) (⟨(x 1).val, (x 1).isLt⟩ : Fin 128) : S1x1x1024x128.Idx) (by
    refine (Shape.rowMajor_val_four (d := S1x1x1024x128.size) _).trans (Eq.trans ?_ (Shape.rowMajor_val_two (d := S1024x128.size) x).symm)
    show ((0 * 1 + 0) * 1024 + (x 0).val) * 128 + (x 1).val = (x 0).val * 128 + (x 1).val
    omega)]
  refine (h _).trans ?_
  show xN X b (o + (x 0).val) (x 1).val = xN X ((n + 1 * (x 1).val) / 128) (o + 1 * (x 0).val) ((n + 1 * (x 1).val) % 128)
  congr 1 <;> omega

end Cert.KernelIdeal.Hand

end
-- ==== Proof.Acc.lean ====
module

public import proofs.«01_k».proof.Proof.Slots

/-!
  What one step of the kernel leaves behind, for any step: a filled part of the merged panel of `x`, a running product
  of one row block of `transform` with the panel, one staged slot of output rows, one transferred block of result rows.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

variable {c : Dev nD} {T : S2048x8192.Idx → EReal} {X : S8x8192x128.Idx → EReal}

/-! ## The panel, filled up to a row -/

/-- Every store of the list holds panel entries, and together they reach every row below `n`. -/
def Filled (X : S8x8192x128.Idx → EReal) (n : ℕ) (L : List (View.Piece (Elt Ideal) S8192x1024 .bf16)) : Prop :=
  (∀ p ∈ L, ∀ x, (p.2 x : EReal) = panel X (p.1.emb x)) ∧ ∀ y : S8192x1024.Idx, (y 0).val < n → ∃ p ∈ L, y ∈ p.1.set

/-- Before any store no row of the panel is filled. -/
theorem filled_nil : Filled X 0 [] := ⟨fun p hp => absurd hp List.not_mem_nil, fun y hy => absurd hy (Nat.not_lt_zero _)⟩

/-- The store of one batch of a chunk: 1024 rows from `n`, 128 columns from `m`. -/
abbrev bandAt (n m : ℕ) (inb : ∀ a, ![n, m] a + S1024x128.size a ≤ S8192x1024.size a) : Rect S8192x1024 :=
  Rect.unit (s := S8192x1024) ![n, m] S1024x128.size inb

/-- A band's store reaches the entries of its rows and columns. -/
theorem mem_band {n m : ℕ} {inb} {y : S8192x1024.Idx} (h0 : n ≤ (y 0).val ∧ (y 0).val < n + 1024) (h1 : m ≤ (y 1).val ∧ (y 1).val < m + 128) :
    y ∈ (bandAt n m inb).set := by
  rw [Rect.mem_set_unit]; intro a
  match a with
  | ⟨0, _⟩ => exact h0
  | ⟨1, _⟩ => exact h1

/-- The eight batches of one more chunk fill 1024 further rows. -/
theorem filled_step {n : ℕ} {L : List (View.Piece (Elt Ideal) S8192x1024 .bf16)} {i0 i1 i2 i3 i4 i5 i6 i7} {p0 p1 p2 p3 p4 p5 p6 p7}
    (h : Filled X n L)
    (h0 : Band X (bandAt n 0 i0) p0) (h1 : Band X (bandAt n 128 i1) p1) (h2 : Band X (bandAt n 256 i2) p2)
    (h3 : Band X (bandAt n 384 i3) p3) (h4 : Band X (bandAt n 512 i4) p4) (h5 : Band X (bandAt n 640 i5) p5)
    (h6 : Band X (bandAt n 768 i6) p6) (h7 : Band X (bandAt n 896 i7) p7) :
    Filled X (n + 1024) (⟨bandAt n 896 i7, p7⟩ :: ⟨bandAt n 768 i6, p6⟩ :: ⟨bandAt n 640 i5, p5⟩ :: ⟨bandAt n 512 i4, p4⟩ ::
      ⟨bandAt n 384 i3, p3⟩ :: ⟨bandAt n 256 i2, p2⟩ :: ⟨bandAt n 128 i1, p1⟩ :: ⟨bandAt n 0 i0, p0⟩ :: L) := by
  constructor
  · simp only [List.forall_mem_cons]
    exact ⟨h7, h6, h5, h4, h3, h2, h1, h0, h.1⟩
  · intro y hy
    by_cases hn : (y 0).val < n
    · obtain ⟨p, hp, hm⟩ := h.2 y hn
      exact ⟨p, by simp only [List.mem_cons, hp, or_true], hm⟩
    · have hc : (y 1).val < 1024 := (y 1).isLt
      have hr : n ≤ (y 0).val ∧ (y 0).val < n + 1024 := ⟨by omega, hy⟩
      simp only [List.exists_mem_cons_iff]
      by_cases c7 : 896 ≤ (y 1).val
      · exact .inl (mem_band hr ⟨c7, by omega⟩)
      by_cases c6 : 768 ≤ (y 1).val
      · exact .inr (.inl (mem_band hr ⟨c6, by omega⟩))
      by_cases c5 : 640 ≤ (y 1).val
      · exact .inr (.inr (.inl (mem_band hr ⟨c5, by omega⟩)))
      by_cases c4 : 512 ≤ (y 1).val
      · exact .inr (.inr (.inr (.inl (mem_band hr ⟨c4, by omega⟩))))
      by_cases c3 : 384 ≤ (y 1).val
      · exact .inr (.inr (.inr (.inr (.inl (mem_band hr ⟨c3, by omega⟩)))))
      by_cases c2 : 256 ≤ (y 1).val
      · exact .inr (.inr (.inr (.inr (.inr (.inl (mem_band hr ⟨c2, by omega⟩))))))
      by_cases c1 : 128 ≤ (y 1).val
      · exact .inr (.inr (.inr (.inr (.inr (.inr (.inl (mem_band hr ⟨c1, by omega⟩)))))))
      exact .inr (.inr (.inr (.inr (.inr (.inr (.inr (.inl (mem_band hr ⟨Nat.zero_le _, by omega⟩))))))))

/-- A chunk of `x` in a slot, its eight batches loaded, converted and stored: 1024 further rows of the panel. -/
theorem chunk_step {n : ℕ} {L : List (View.Piece (Elt Ideal) S8192x1024 .bf16)} {i0 i1 i2 i3 i4 i5 i6 i7}
    {t0 t1 t2 t3 t4 t5 t6 t7 : FVec Ideal S1x1x1024x128 .f32} {h₁} {h₂} {h₃}
    (h : Filled X n L) (h0 : Batch X 0 n t0) (h1 : Batch X 1 n t1) (h2 : Batch X 2 n t2) (h3 : Batch X 3 n t3)
    (h4 : Batch X 4 n t4) (h5 : Batch X 5 n t5) (h6 : Batch X 6 n t6) (h7 : Batch X 7 n t7) :
    let q (t : FVec Ideal S1x1x1024x128 .f32) : S1024x128.Idx → EReal :=
      shapeCast S1024x128 (truncf (F := Ideal) .bf16 (shapeCast S1024x128 t h₁ : FVec Ideal S1024x128 .f32) h₂) h₃
    Filled X (n + 1024) (⟨bandAt n 896 i7, q t7⟩ :: ⟨bandAt n 768 i6, q t6⟩ :: ⟨bandAt n 640 i5, q t5⟩ :: ⟨bandAt n 512 i4, q t4⟩ ::
      ⟨bandAt n 384 i3, q t3⟩ :: ⟨bandAt n 256 i2, q t2⟩ :: ⟨bandAt n 128 i1, q t1⟩ :: ⟨bandAt n 0 i0, q t0⟩ :: L) :=
  filled_step h (band_ok h0 rfl) (band_ok h1 rfl) (band_ok h2 rfl) (band_ok h3 rfl) (band_ok h4 rfl) (band_ok h5 rfl) (band_ok h6 rfl) (band_ok h7 rfl)

/-- A load of the panel's rows from `o` on, all columns, where they are filled. -/
theorem panel_load {n o K : ℕ} {L} (h : Filled X n L) (hK : o + K ≤ n) (inb : ∀ a, ![o, 0] a + ![K, 1024] a ≤ S8192x1024.size a)
    (j : (⟨2, ![K, 1024]⟩ : Shape).Idx) :
    (mXt.view.readCov (Val := Elt Ideal) L (Rect.unit (s := S8192x1024) ![o, 0] ![K, 1024] inb).toLoadRect j : EReal)
      = xN X ((j 1).val / 128) (o + (j 0).val) ((j 1).val % 128) := by
  have hj : (j 0).val < K := (j 0).isLt
  refine (View.read_writes_apply_of_pieces mXt.view _ (panel X) L h.1
    ((Rect.unit (s := S8192x1024) ![o, 0] ![K, 1024] inb).emb j) (h.2 _ (show o + 1 * (j 0).val < n by omega))).trans ?_
  show xN X ((0 + 1 * (j 1).val) / 128) (o + 1 * (j 0).val) ((0 + 1 * (j 1).val) % 128) = _
  congr 1 <;> omega

/-! ## The products -/

/-- A load of the row-block buffer's slot that holds the rows of `transform` from `r`. -/
theorem block_load {s r : ℕ} {inb} {h₁} {f : HbBuf (F := Ideal) c mTb} (h : BlockIn T s r f) (y : S256x8192.Idx) :
    (shapeCast S256x8192 (View.readAt (Elt Ideal) mTb.view (Rect.unit (s := S3x256x8192) ![s, 0, 0] S1x256x8192.size inb).toLoadRect f) h₁ y : EReal)
      = tN T (r + (y 0).val) (y 1).val := by
  refine (shapeCast_dropUnit_apply ![256, 8192] _ h₁ y).trans ?_
  refine (h _ (show s + 1 * 0 = s by omega)).trans ?_
  show tN T (r + (0 + 1 * (y 0).val)) (0 + 1 * (y 1).val) = _
  congr 1 <;> omega

/-- A product of `K` columns of a row block with `K` rows of the panel, the columns and the rows both from `o`. -/
theorem prod_sum {K : ℕ} (o r : ℕ) (prec) (lhs : FVec Ideal ⟨2, ![256, K]⟩ .bf16) (rhs : FVec Ideal ⟨2, ![K, 1024]⟩ .bf16)
    (acc : FVec Ideal S256x1024 .f32) (h0 : ∀ j, (acc j : EReal) = 0)
    (hl : ∀ y : (⟨2, ![256, K]⟩ : Shape).Idx, (lhs y : EReal) = tN T (r + (y 0).val) (o + (y 1).val))
    (hr : ∀ y : (⟨2, ![K, 1024]⟩ : Shape).Idx, (rhs y : EReal) = xN X ((y 1).val / 128) (o + (y 0).val) ((y 1).val % 128))
    (x : S256x1024.Idx) :
    (FloatOps.matmul (DotDims.plain 256 K 1024) prec lhs rhs acc x : EReal)
      = ∑ k ∈ Finset.range K, tN T (r + (x 0).val) (o + k) * xN X ((x 1).val / 128) (o + k) ((x 1).val % 128) := by
  refine (congrArg (FloatOps.matmul (DotDims.plain 256 K 1024) prec lhs rhs acc) (eq_ix2 x)).trans
    ((Ideal.matmul_plain_apply prec lhs rhs acc (x 0) (x 1)).trans ?_)
  rw [h0, zero_add, Finset.sum_range]
  exact Finset.sum_congr rfl fun k _ => congrArg₂ (· * ·) (hl _) (hr _)

/-- The contraction's first `n` terms and the next `K` are its first `n + K`. -/
theorem part_add (T : S2048x8192.Idx → EReal) (X : S8x8192x128.Idx → EReal) (n K b R l : ℕ) :
    part T X (n + K) b R l = part T X n b R l + ∑ k ∈ Finset.range K, tN T R (n + k) * xN X b (n + k) l :=
  Finset.sum_range_add _ _ _

/-- A 256-row accumulator for the rows of `transform` from `r` holds the contraction's first `n` terms. -/
def AccIs (T : S2048x8192.Idx → EReal) (X : S8x8192x128.Idx → EReal) (r n : ℕ) (A : S256x1024.Idx → EReal) : Prop :=
  ∀ x : S256x1024.Idx, A x = part T X n ((x 1).val / 128) (r + (x 0).val) ((x 1).val % 128)

/-- The columns of a row block from `o`. -/
theorem cols_ok {r o : ℕ} {t : FVec Ideal S256x8192 .f32} (ht : ∀ y : S256x8192.Idx, (t y : EReal) = tN T (r + (y 0).val) (y 1).val)
    (h₁ : S256x8192.Slices ![0, o] S256x1024) (h₂) (y : S256x1024.Idx) :
    (truncf (F := Ideal) .bf16 (extractStridedSlice S256x1024 ![0, o] t h₁ : FVec Ideal S256x1024 .f32) h₂ y : EReal) = tN T (r + (y 0).val) (o + (y 1).val) := by
  have hb : o + (y 1).val < 8192 := by
    have h := h₁.2 ⟨1, by decide⟩; have hy : (y 1).val < 1024 := (y 1).isLt
    have h : o + 1024 ≤ 8192 := h
    omega
  refine (extractStridedSlice_apply ![0, o] t h₁ y (ix2 (⟨(y 0).val, (y 0).isLt⟩ : Fin 256) (⟨o + (y 1).val, hb⟩ : Fin 8192)) fun a => ?_).trans (ht _)
  match a with
  | ⟨0, _⟩ => exact (Nat.zero_add _).symm
  | ⟨1, _⟩ => rfl

/-- The first chunk's product. -/
theorem acc_first {r : ℕ} {t : FVec Ideal S256x8192 .f32} {P : FVec Ideal S1024x1024 .bf16} {h₁} {h₂}
    (ht : ∀ y : S256x8192.Idx, (t y : EReal) = tN T (r + (y 0).val) (y 1).val)
    (hP : ∀ y : S1024x1024.Idx, (P y : EReal) = xN X ((y 1).val / 128) (0 + (y 0).val) ((y 1).val % 128)) :
    AccIs T X r 1024 (matmul dot_S256x1024_S1024x1024_S256x1024_1_0_0_1_n_n none
      (truncf (F := Ideal) .bf16 (extractStridedSlice S256x1024 ![0, 0] t h₁ : FVec Ideal S256x1024 .f32) h₂) P (constant S256x1024 .f32 0x00000000#32)) := fun x => by
  refine (prod_sum (K := 1024) 0 r none _ _ _ (fun _ => Ideal.ofBits_zero_f32) (cols_ok ht h₁ h₂) hP x).trans ?_
  simp only [Nat.zero_add]; rfl

/-- One more chunk's product added on. -/
theorem acc_step {r n : ℕ} {A : FVec Ideal S256x1024 .f32} {t : FVec Ideal S256x8192 .f32} {P : FVec Ideal S1024x1024 .bf16} {h₁} {h₂}
    (hA : AccIs T X r n A) (ht : ∀ y : S256x8192.Idx, (t y : EReal) = tN T (r + (y 0).val) (y 1).val)
    (hP : ∀ y : S1024x1024.Idx, (P y : EReal) = xN X ((y 1).val / 128) (n + (y 0).val) ((y 1).val % 128)) :
    AccIs T X r (n + 1024) (addf A (matmul dot_S256x1024_S1024x1024_S256x1024_1_0_0_1_n_n none
      (truncf (F := Ideal) .bf16 (extractStridedSlice S256x1024 ![0, n] t h₁ : FVec Ideal S256x1024 .f32) h₂) P (constant S256x1024 .f32 0x00000000#32))) := fun x =>
  (congrArg₂ (· + ·) (hA x) (prod_sum (K := 1024) n r none _ _ _ (fun _ => Ideal.ofBits_zero_f32) (cols_ok ht h₁ h₂) hP x)).trans
    (part_add T X n 1024 _ _ _).symm

/-- The whole contraction in one product. -/
theorem acc_whole {r : ℕ} {t : FVec Ideal S256x8192 .f32} {P : FVec Ideal S8192x1024 .bf16} {h₂}
    (ht : ∀ y : S256x8192.Idx, (t y : EReal) = tN T (r + (y 0).val) (y 1).val)
    (hP : ∀ y : S8192x1024.Idx, (P y : EReal) = xN X ((y 1).val / 128) (0 + (y 0).val) ((y 1).val % 128)) :
    AccIs T X r 8192 (matmul dot_S256x8192_S8192x1024_S256x1024_1_0_0_1_n_n none
      (truncf (F := Ideal) .bf16 t h₂) P (constant S256x1024 .f32 0x00000000#32)) := fun x => by
  refine (prod_sum (K := 8192) 0 r none _ _ _ (fun _ => Ideal.ofBits_zero_f32)
    (fun y => (ht y).trans (by rw [Nat.zero_add])) hP x).trans ?_
  simp only [Nat.zero_add]; rfl

/-! ## The staged output rows -/

/-- A stored output piece holds batch `b` of the result's 256 rows from `r`. -/
def OutPiece (T : S2048x8192.Idx → EReal) (X : S8x8192x128.Idx → EReal) (r b : ℕ) (p : S1x1x256x128.Idx → EReal) : Prop :=
  ∀ x : S1x1x256x128.Idx, p x = part T X 8192 b (r + (x 2).val) (x 3).val

/-- 128 columns from `n` lie inside the accumulator. -/
theorem slices_ok {n : ℕ} (hn : n + 128 ≤ 1024) : S256x1024.Slices ![0, n] S256x128 := ⟨rfl, fun a => by
  match a with
  | ⟨0, _⟩ => show 0 + 256 ≤ 256; omega
  | ⟨1, _⟩ => exact hn⟩

/-- The accumulator's columns of one batch are such a piece. -/
theorem outPiece {r b n : ℕ} {A : S256x1024.Idx → EReal} {h₂ : S256x128.ShapeCasts S1x1x256x128}
    (hA : AccIs T X r 8192 A) (hn : n = 128 * b) (hb : n + 128 ≤ 1024) :
    OutPiece T X r b (shapeCast S1x1x256x128 (extractStridedSlice S256x128 ![0, n] A (slices_ok hb)) h₂) := fun x => by
  have h0 : (x 0).val < 1 := (x 0).isLt
  have h1 : (x 1).val < 1 := (x 1).isLt
  have h2 : (x 2).val < 256 := (x 2).isLt
  have h3 : (x 3).val < 128 := (x 3).isLt
  rw [shapeCast_apply _ h₂ x (ix2 (⟨(x 2).val, h2⟩ : Fin 256) (⟨(x 3).val, h3⟩ : Fin 128)) (by
    refine (Shape.rowMajor_val_two (d := S256x128.size) _).trans (Eq.trans ?_ (Shape.rowMajor_val_four (d := S1x1x256x128.size) x).symm)
    show (x 2).val * 128 + (x 3).val = (((x 0).val * 1 + (x 1).val) * 256 + (x 2).val) * 128 + (x 3).val
    omega)]
  refine (extractStridedSlice_apply ![0, n] A (slices_ok hb) _ (ix2 (⟨(x 2).val, h2⟩ : Fin 256) (⟨n + (x 3).val, by omega⟩ : Fin 1024)) fun a => ?_).trans ((hA _).trans ?_)
  · match a with
    | ⟨0, _⟩ => exact (Nat.zero_add _).symm
    | ⟨1, _⟩ => rfl
  · show part T X 8192 ((n + (x 3).val) / 128) (r + (x 2).val) ((n + (x 3).val) % 128) = _
    congr 1 <;> omega

/-- The store of one batch of output rows into slot `s`. -/
abbrev stageAt (s b : ℕ) (inb : ∀ a, ![s, b, 0, 0] a + S1x1x256x128.size a ≤ S2x8x256x128.size a) : Rect S2x8x256x128 :=
  Rect.unit (s := S2x8x256x128) ![s, b, 0, 0] S1x1x256x128.size inb

/-- Where a stored batch lies in the staging buffer. -/
theorem stage_ok {s r b : ℕ} {inb} {p : S1x1x256x128.Idx → EReal} (h : OutPiece T X r b p) (x : S1x1x256x128.Idx) :
    p x = (fun y : S2x8x256x128.Idx => part T X 8192 (y 1).val (r + (y 2).val) (y 3).val) ((stageAt s b inb).emb x) := by
  have h1 : (x 1).val < 1 := (x 1).isLt
  rw [h x]
  show _ = part T X 8192 (b + 1 * (x 1).val) (r + (0 + 1 * (x 2).val)) (0 + 1 * (x 3).val)
  congr 1 <;> omega

/-- A place of the staging buffer in slot `s`, batch `b` is under that store. -/
theorem mem_stage {s b : ℕ} {inb} {y : S2x8x256x128.Idx} (h0 : (y 0).val = s) (h1 : (y 1).val = b) : y ∈ (stageAt s b inb).set := by
  rw [Rect.mem_set_unit]; intro a
  have h2 : (y 2).val < 256 := (y 2).isLt
  have h3 : (y 3).val < 128 := (y 3).isLt
  match a with
  | ⟨0, _⟩ => show s ≤ (y 0).val ∧ (y 0).val < s + 1; omega
  | ⟨1, _⟩ => show b ≤ (y 1).val ∧ (y 1).val < b + 1; omega
  | ⟨2, _⟩ => show 0 ≤ (y 2).val ∧ (y 2).val < 0 + 256; omega
  | ⟨3, _⟩ => show 0 ≤ (y 3).val ∧ (y 3).val < 0 + 128; omega

/-- Eight batches stored into slot `s`, then the slot transferred: the result's 256 rows from `r`, whatever was stored before. -/
theorem slot_out {s r : ℕ} {L : List (View.Piece (Elt Ideal) S2x8x256x128 .f32)} {i0 i1 i2 i3 i4 i5 i6 i7} {p0 p1 p2 p3 p4 p5 p6 p7}
    {inb} {hs} {hq} {f : HbBuf (F := Ideal) c mOb}
    (h0 : OutPiece T X r 0 p0) (h1 : OutPiece T X r 1 p1) (h2 : OutPiece T X r 2 p2) (h3 : OutPiece T X r 3 p3)
    (h4 : OutPiece T X r 4 p4) (h5 : OutPiece T X r 5 p5) (h6 : OutPiece T X r 6 p6) (h7 : OutPiece T X r 7 p7) (y : S8x256x128.Idx) :
    (ReadAs.same.apply (View.read (Elt Ideal) ((mOb.slice (Rect.unit ![s, 0, 0, 0] S1x8x256x128.size inb) hs).squeeze S8x256x128 hq).view
      (mOb.view.writes (Elt Ideal) f (⟨stageAt s 7 i7, p7⟩ :: ⟨stageAt s 6 i6, p6⟩ :: ⟨stageAt s 5 i5, p5⟩ :: ⟨stageAt s 4 i4, p4⟩ ::
        ⟨stageAt s 3 i3, p3⟩ :: ⟨stageAt s 2 i2, p2⟩ :: ⟨stageAt s 1 i1, p1⟩ :: ⟨stageAt s 0 i0, p0⟩ :: L))) y : EReal)
      = part T X 8192 (y 0).val (r + (y 1).val) (y 2).val := by
  obtain ⟨Y, hY, hR⟩ : ∃ Y : S2x8x256x128.Idx, ((Y 0).val = s ∧ (Y 1).val = (y 0).val ∧ (Y 2).val = (y 1).val ∧ (Y 3).val = (y 2).val) ∧
      ∀ g : HbBuf (F := Ideal) c mOb, (ReadAs.same.apply (View.read (Elt Ideal) ((mOb.slice (Rect.unit ![s, 0, 0, 0] S1x8x256x128.size inb) hs).squeeze S8x256x128 hq).view g) y : EReal)
        = mOb.view.read (Elt Ideal) g Y := by
    refine ⟨(Rect.unit (s := S2x8x256x128) ![s, 0, 0, 0] S1x8x256x128.size inb).emb (Shape.reshapeEquiv hq.numel_eq y), ?_, fun g => rfl⟩
    rw [Shape.reshapeEquiv_cons_one (d := ![8, 256, 128]) hq.numel_eq y]
    exact ⟨show s + 1 * 0 = s by omega, show 0 + 1 * (y 0).val = _ by omega, show 0 + 1 * (y 1).val = _ by omega, show 0 + 1 * (y 2).val = _ by omega⟩
  rw [hR]
  obtain ⟨e0, e1, e2, e3⟩ := hY
  rw [← e1, ← e2, ← e3]
  have hb : (Y 1).val < 8 := (Y 1).isLt
  refine View.read_writes_apply_of_pieces mOb.view (mOb.view.writes (Elt Ideal) f L) (fun y => part T X 8192 (y 1).val (r + (y 2).val) (y 3).val)
    [⟨stageAt s 7 i7, p7⟩, ⟨stageAt s 6 i6, p6⟩, ⟨stageAt s 5 i5, p5⟩, ⟨stageAt s 4 i4, p4⟩, ⟨stageAt s 3 i3, p3⟩, ⟨stageAt s 2 i2, p2⟩, ⟨stageAt s 1 i1, p1⟩, ⟨stageAt s 0 i0, p0⟩] ?_ Y ?_
  · simp only [List.forall_mem_cons]
    exact ⟨stage_ok h7, stage_ok h6, stage_ok h5, stage_ok h4, stage_ok h3, stage_ok h2, stage_ok h1, stage_ok h0, fun p hp => absurd hp List.not_mem_nil⟩
  · simp only [List.exists_mem_cons_iff]
    rcases (by omega : (Y 1).val = 7 ∨ (Y 1).val = 6 ∨ (Y 1).val = 5 ∨ (Y 1).val = 4 ∨ (Y 1).val = 3 ∨ (Y 1).val = 2 ∨ (Y 1).val = 1 ∨ (Y 1).val = 0)
      with e | e | e | e | e | e | e | e
    · exact .inl (mem_stage e0 e)
    · exact .inr (.inl (mem_stage e0 e))
    · exact .inr (.inr (.inl (mem_stage e0 e)))
    · exact .inr (.inr (.inr (.inl (mem_stage e0 e))))
    · exact .inr (.inr (.inr (.inr (.inl (mem_stage e0 e)))))
    · exact .inr (.inr (.inr (.inr (.inr (.inl (mem_stage e0 e))))))
    · exact .inr (.inr (.inr (.inr (.inr (.inr (.inl (mem_stage e0 e)))))))
    · exact .inr (.inr (.inr (.inr (.inr (.inr (.inr (.inl (mem_stage e0 e))))))))

/-! ## The result -/

/-- The result's rows below `n` hold the whole contraction. -/
def OutIs (T : S2048x8192.Idx → EReal) (X : S8x8192x128.Idx → EReal) (n : ℕ) (f : HbBuf (F := Ideal) c mO) : Prop :=
  ∀ y : S8x2048x128.Idx, (y 1).val < n → (mO.view.read (Elt Ideal) f y : EReal) = part T X 8192 (y 0).val (y 1).val (y 2).val

/-- Before any transfer no result row is claimed. -/
theorem out_nil {f : HbBuf (F := Ideal) c mO} : OutIs (c := c) T X 0 (mO.view.writes (Elt Ideal) f []) := fun y hy => absurd hy (Nat.not_lt_zero _)

/-- One more transferred block of 256 rows. -/
theorem out_step {n : ℕ} {inb} {f : HbBuf (F := Ideal) c mO} {w : S8x256x128.Idx → EReal} {L : List (View.Piece (Elt Ideal) S8x2048x128 .f32)}
    (h : OutIs (c := c) T X n (mO.view.writes (Elt Ideal) f L))
    (hw : ∀ y : S8x256x128.Idx, w y = part T X 8192 (y 0).val (n + (y 1).val) (y 2).val) :
    OutIs (c := c) T X (n + 256) (mO.view.writes (Elt Ideal) f (⟨Rect.unit (s := S8x2048x128) ![0, n, 0] S8x256x128.size inb, w⟩ :: L)) := fun y hy => by
  by_cases hn : (y 1).val < n
  · refine (View.read_slice_write_of_not_mem (v := mO.view) (Val := Elt Ideal) (Rect.unit (s := S8x2048x128) ![0, n, 0] S8x256x128.size inb) (mO.view.writes (Elt Ideal) f L) w _ fun hm => ?_).trans (h y hn)
    rw [Rect.map_emb_univ, Rect.mem_set_unit] at hm
    have h1 : n ≤ (y 1).val ∧ (y 1).val < n + 256 := hm 1
    omega
  · have e : (Rect.unit (s := S8x2048x128) ![0, n, 0] S8x256x128.size inb).emb
        (ix3 (⟨(y 0).val, (y 0).isLt⟩ : Fin 8) (⟨(y 1).val - n, by omega⟩ : Fin 256) (⟨(y 2).val, (y 2).isLt⟩ : Fin 128) : S8x256x128.Idx) = y := by
      apply Rect.emb_eq_of_coords; intro a
      match a with
      | ⟨0, _⟩ => show (y 0).val = 0 + 1 * (y 0).val; omega
      | ⟨1, _⟩ => show (y 1).val = n + 1 * ((y 1).val - n); omega
      | ⟨2, _⟩ => show (y 2).val = 0 + 1 * (y 2).val; omega
    conv_lhs => rw [← e]
    refine (View.read_slice_write_emb (v := mO.view) (Val := Elt Ideal) (Rect.unit (s := S8x2048x128) ![0, n, 0] S8x256x128.size inb) (mO.view.writes (Elt Ideal) f L) w (Finset.mem_univ _)).trans ((hw _).trans ?_)
    show part T X 8192 (y 0).val (n + ((y 1).val - n)) (y 2).val = _
    rw [Nat.add_sub_cancel' (by omega)]

end Cert.KernelIdeal.Hand

end
-- ==== Proof.Launch.lean ====
module

public import proofs.«01_k».proof.Proof.Gen.KernelIdeal.Frame
public import proofs.«01_k».proof.Proof.Run

/-!
  The launch of the idealized kernel around one body run: given contents `G` that name what the body leaves in the result,
  the program terminates with the result at `G`, both arguments unchanged and every semaphore counter at zero.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch -/

/-- The arguments, which the body only reads. -/
def H0 : Finset (Ref sig .tc) := {main_arg0, main_arg1}
/-- The result, which the body's own transfers write. -/
def R0 : Finset (Ref sig .tc) := {main_v0}
/-- No window stages either argument. -/
theorem H0_sub : H0 ⊆ Pipeline.restRefs sig cfg0.spec := by decide
/-- No window stages the result, and it is neither argument. -/
theorem R0_sub : R0 ⊆ Pipeline.restRefs sig cfg0.spec \ H0 := by decide

/-- The program is its one region, entered with the buffers as launched. -/
theorem hmainR (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The body's seven transfer cells. -/
abbrev osem0 : Fin 7 → SemLoc sig := fun j => SemLoc.dma (![0, 1, 2, 3, 4, 5, 6] j)
/-- The body's own semaphores are distinct, and none is a window's. -/
theorem ownSemFacts0 : Pipeline.OwnSemFacts cfg0.spec osem0 := by decide

/-- The seven cells at zero, one by one. -/
theorem ownSems0_list (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0
          ∗ semVal ((c : Thread nD τ), SemLoc.dma 2) 0 ∗ semVal ((c : Thread nD τ), SemLoc.dma 3) 0
          ∗ semVal ((c : Thread nD τ), SemLoc.dma 4) 0 ∗ semVal ((c : Thread nD τ), SemLoc.dma 5) 0
          ∗ semVal ((c : Thread nD τ), SemLoc.dma 6) 0) := by
  rw [Pipeline.ownSems0_eq_of_list c osem0 [0, 1, 2, 3, 4, 5, 6] (by decide) (by decide)]; rfl

/-- The two arguments as launched, one by one. -/
theorem argPts (c : Dev nD) :
    (bigSep H0 (fun b => ((c : Thread nD τ).loc b) ↦{fullShare} V m c b) : sProp 𝕄)
      = iprop(hbPt c mX (V m c main_arg0) ∗ hbPt c mT (V m c main_arg1)) := by
  rw [BI.bigSep_eq_bigSepL_of_eq [main_arg0, main_arg1] (by decide) (by decide)]; rfl

/-- The result, held at given contents. -/
theorem resPts (c : Dev nD) (W : (b : Ref sig .tc) → Buf (Elt F) ((c.tc : Thread nD τ).loc b)) :
    (Pipeline.routed R0 c W : sProp 𝕄) = hbPt c mO (W main_v0) := by
  unfold Pipeline.routed; rw [BI.bigSep_eq_bigSepL_of_eq [main_v0] (by decide) (by decide)]; rfl

/-- The scoped buffers the body finds: the four scratch buffers, each at some contents. -/
theorem scratchPts (c : Dev nD) :
    (Pipeline.scopedRest (Ix := Unit) (Name := ℕ) (U := Pipeline.UD sig nD τ) (Lvl := ℕ) (Val := Elt F) cfg0.spec c : sProp 𝕄)
      = iprop((∃ f, hbPt c mXt f) ∗ (∃ f, hbPt c mC f) ∗ (∃ f, hbPt c mTb f) ∗ (∃ f, hbPt c mOb f)) := by
  rw [scopedRest0_eq]

/-- The body as the region calls it at a grid point. -/
theorem defs₀_row (t : Fin cfg0.N) :
    defs₀ (F := F) .tc cfg0.body (cfg0.bodyArgs t (cfg0.slots t)) = bodyAt0 t := by
  unfold defs₀; rw [Defs.onTc_tc]

/-- What the body keeps between steps: the scratch buffers, the generator register, the cells at zero, the arguments, the
    result at `W main_v0`. -/
theorem inv_eq (W : (c : Dev nD) → (b : Ref sig .tc) → Buf (Elt F) ((c.tc : Thread nD τ).loc b)) (c : Dev nD) :
    (Pipeline.ΦDRG osem0 cfg0.spec H0 R0 (V m) W c : sProp 𝕄)
      = iprop(((∃ f, hbPt c mXt f) ∗ (∃ f, hbPt c mC f) ∗ (∃ f, hbPt c mTb f) ∗ (∃ f, hbPt c mOb f)) ∗ (∃ r, prngReg c r)
          ∗ (semVal ((c : Thread nD τ), SemLoc.dma 0) 0 ∗ semVal ((c : Thread nD τ), SemLoc.dma 1) 0
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ semVal ((c : Thread nD τ), SemLoc.dma 6) 0)
          ∗ (hbPt c mX (V m c main_arg0) ∗ hbPt c mT (V m c main_arg1)) ∗ hbPt c mO (W c main_v0)) := by
  rw [Pipeline.ΦDRG_eq, scratchPts, ownSems0_list, argPts, resPts]

-- contents that are to name the result's
variable (G : (c : Dev nD) → (b : Ref sig .tc) → Buf (Elt F) ((c.tc : Thread nD τ).loc b))

/-- The proof data of the launch: no windows; the result as launched before the one step, at `G` after it. -/
def dats (_ : Fin 1) (c : Dev nD) : Dat τ (Elt F) Unit ℕ (Pipeline.UD sig nD τ) ℕ cfg0 c where
  A w := V m c (Pipeline.arrRef cfg0.spec w)
  after w t := w.elim0
  Φ t := Pipeline.ΦDRG osem0 cfg0.spec H0 R0 (V m) (if t.val = 0 then V m else G) c
  q _ := fullShare
  owed _ := 0

/-- Each window's array starts at its launch contents. -/
theorem A_eq (c : Dev nD) (w : Fin cfg0.W) : (dats m G 0 c).A w = V m c (Pipeline.arrRef cfg0.spec w) := by
  dsimp only [dats]

/-- `G` names what the body leaves in the result, whatever the scratch buffers held. -/
def Names : Prop := ∀ (c : Dev nD) (t : Fin cfg0.N) f0 f1 f2 f3,
  (kernelRun c t (V m c main_arg1) (V m c main_arg0) (V m c main_v0) f0 f1 f2 f3).1 = G c main_v0

variable (hG : Names m G)
include hG

/-- The body takes the invariant before the step to the invariant after it. -/
theorem sound_body (c : Dev nD) (t : Fin cfg0.N) :
    iprop((dats m G 0 c).Φ t.castSucc ∗ (dats m G 0 c).owesAt () t.castSucc)
      ⊢ wp frame (wpE (defs₀ (F := F)) Variants.none c none) Set.univ (bodyAt0 t)
          (fun _ => iprop((dats m G 0 c).Φ t.succ ∗ (dats m G 0 c).owesAt () t.succ)) := by
  unfold bodyAt0
  have ht : t.val = 0 := by have h := fin_N0 t; rw [h]; try rfl
  rw [show (dats m G 0 c).Φ t.succ = Pipeline.ΦDRG osem0 cfg0.spec H0 R0 (V m) G c from rfl,
    show (dats m G 0 c).Φ t.castSucc = Pipeline.ΦDRG osem0 cfg0.spec H0 R0 (V m) (V m) c from
      congrArg (fun W => Pipeline.ΦDRG osem0 cfg0.spec H0 R0 (V m) W c) (if_pos ht), inv_eq, inv_eq]
  unfold Dat.owesAt Pipeline.owesWithin
  rw [show (dats m G 0 c).owed t.castSucc = 0 from rfl, show (dats m G 0 c).owed t.succ = 0 from rfl]
  iintro ⟨⟨⟨⟨%f0, B0⟩, ⟨%f1, B1⟩, ⟨%f2, B2⟩, ⟨%f3, B3⟩⟩, Hg, ⟨S0, S1, S2, S3, S4, S5, S6⟩, ⟨HX, HT⟩, HO⟩, ⟨%W, -, HW⟩⟩
  rw [← hG c t f0 f1 f2 f3]
  iapply ((kernelRun c t (V m c main_arg1) (V m c main_arg0) (V m c main_v0) f0 f1 f2 f3).2 W _)
  isplitl [HT]; · iexact HT
  isplitl [HX]; · iexact HX
  isplitl [HO]; · iexact HO
  isplitl [B0]; · iexact B0
  isplitl [B1]; · iexact B1
  isplitl [B2]; · iexact B2
  isplitl [B3]; · iexact B3
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [HW]; · iexact HW
  iintro ⟨HT, HX, HO, B0, B1, B2, B3, S0, S1, S2, S3, S4, S5, S6, ⟨%W', HW'⟩⟩
  isplitl [HT HX HO B0 B1 B2 B3 Hg S0 S1 S2 S3 S4 S5 S6]
  · isplitl [B0 B1 B2 B3]
    · isplitl [B0]; · iexact B0
      isplitl [B1]; · iexact B1
      isplitl [B2]; · iexact B2
      iexact B3
    isplitl [Hg]; · iexact Hg
    isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    isplitl [HX HT]
    · isplitl [HX]; · iexact HX
      iexact HT
    iexact HO
  iexists W'; isplitr; · ipureintro; exact fun _ _ => Or.inl trivial
  iexact HW'

/-- The body's obligation at the one grid point. -/
theorem body_obligation (c : Dev nD) : BodyObligation (dats m G 0 c) (defs₀ (F := F)) Variants.none () Set.univ := fun t => by
  rw [defs₀_row]
  refine triple_restated (sound_body m G hG c t) rfl ?_ fun _ => ?_
  · iintro ⟨HI, HW, -⟩
    isplitl [HI]; · iexact HI
    iexact HW
  · rw [show (Finset.univ : Finset (Fin cfg0.W)) = ∅ from rfl, bigSep_empty]
    iintro ⟨HI, HW⟩
    isplitl [HI]; · iexact HI
    isplitl [HW]; · iexact HW
    iempintro

set_option backward.isDefEq.respectTransparency.types false in
/-- The whole program's run: the arguments and every counter as at the start, the result at `G`. -/
theorem run_main : θ_run defs (onTc (τ := τ) (main (F := F))) (s₀ m ρ) (fun r => Pipeline.FramePostRG cfgs (dats m G) 0 R0 (V m) G r ∧ r.2.sem = fun _ => 0) :=
  Pipeline.θ_run_frame_dmaRG (Q' := _) cfgs (dats m G) (0 : Fin 1) launch0 osem0 defs₀ Variants.none ownSemFacts0 H0 R0 H0_sub R0_sub m ρ main
    (hbody := fun c => (body_obligation m G hG c).loose) (hshare := fun c => (dats m G 0 c).share_full fun _ => rfl)
    (howed := fun _ _ => rfl) (V := V m) (hmain := hmainR m Variants.none) (hA := A_eq m G) (G := G)
    (hin := fun _ => .rfl) (hout := fun _ => .rfl)

/-- The program terminates without fault, its arguments end unchanged, every counter ends at zero, and the result ends at `G`. -/
theorem value : θ_run defs (onTc (τ := τ) (main (F := F))) ⟨m, fun _ => 0, ρ⟩ (fun r => (∀ c : Dev nD,
      r.2.mem ((c.tc : Thread nD τ).loc main_v0) = G c main_v0
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨h.1.written c (by decide),
      (h.1.toR c).2 main_arg0 (Finset.mem_sdiff.mpr ⟨Pipeline.mem_restRefs_of main_arg0 (by decide) (by decide), by decide⟩),
      (h.1.toR c).2 main_arg1 (Finset.mem_sdiff.mpr ⟨Pipeline.mem_restRefs_of main_arg1 (by decide) (by decide), by decide⟩)⟩, h.2⟩)
    (run_main m ρ G hG)

end Cert.KernelIdeal.Hand

end
-- ==== Proof.Result.lean ====
module

public import proofs.«01_k».proof.Proof.Acc
public import proofs.«01_k».proof.Proof.Launch

/-!
  The kernel's own run over the reals: the panel after each chunk, the eight row blocks' products, and the result, which
  holds the whole contraction at every place.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

variable (c : Dev nD) (ft : HbBuf (F := Ideal) c mT) (fx : HbBuf (F := Ideal) c mX) (fo : HbBuf (F := Ideal) c mO)
    (f0 : HbBuf (F := Ideal) c mXt) (f1 : HbBuf (F := Ideal) c mC) (f2 : HbBuf (F := Ideal) c mTb) (f3 : HbBuf (F := Ideal) c mOb)

/-! ## The panel after each chunk -/

set_option maxHeartbeats 1000000 in
/-- Each chunk in turn: its slot holds it, and its eight batches are stored. -/
theorem filled8 : Filled fx 8192 (kernelRun.sl.HXt_64 c fx f1) ∧ Filled fx 7168 (kernelRun.sl.HXt_56 c fx f1) ∧
    Filled fx 6144 (kernelRun.sl.HXt_48 c fx f1) ∧ Filled fx 5120 (kernelRun.sl.HXt_40 c fx f1) ∧ Filled fx 4096 (kernelRun.sl.HXt_32 c fx f1) ∧
    Filled fx 3072 (kernelRun.sl.HXt_24 c fx f1) ∧ Filled fx 2048 (kernelRun.sl.HXt_16 c fx f1) ∧ Filled fx 1024 (kernelRun.sl.HXt_8 c fx f1) := by
  have g1 : Filled fx 1024 (kernelRun.sl.HXt_8 c fx f1) := by
    refine chunk_step (n := 0) filled_nil ?_ ?_ ?_ ?_ ?_ ?_ ?_ ?_
    all_goals refine batch_load (c := c) ?_
    all_goals refine chunkIn_other (by decide) ?_
    all_goals exact chunkIn_here fx 0 0 _ _ _ _ _ _
  have g2 : Filled fx 2048 (kernelRun.sl.HXt_16 c fx f1) := by
    refine chunk_step (n := 1024) g1 ?_ ?_ ?_ ?_ ?_ ?_ ?_ ?_
    all_goals refine batch_load (c := c) ?_
    all_goals refine chunkIn_other (by decide) ?_
    all_goals exact chunkIn_here fx 1 1024 _ _ _ _ _ _
  have g3 : Filled fx 3072 (kernelRun.sl.HXt_24 c fx f1) := by
    refine chunk_step (n := 2048) g2 ?_ ?_ ?_ ?_ ?_ ?_ ?_ ?_
    all_goals refine batch_load (c := c) ?_
    all_goals refine chunkIn_other (by decide) ?_
    all_goals exact chunkIn_here fx 0 2048 _ _ _ _ _ _
  have g4 : Filled fx 4096 (kernelRun.sl.HXt_32 c fx f1) := by
    refine chunk_step (n := 3072) g3 ?_ ?_ ?_ ?_ ?_ ?_ ?_ ?_
    all_goals refine batch_load (c := c) ?_
    all_goals refine chunkIn_other (by decide) ?_
    all_goals exact chunkIn_here fx 1 3072 _ _ _ _ _ _
  have g5 : Filled fx 5120 (kernelRun.sl.HXt_40 c fx f1) := by
    refine chunk_step (n := 4096) (t5 := kernelRun.sl.v347 c fx f1) g4 ?_ ?_ ?_ ?_ ?_ ?_ ?_ ?_
    all_goals refine batch_load (c := c) ?_
    all_goals refine chunkIn_other (by decide) ?_
    all_goals exact chunkIn_here fx 0 4096 _ _ _ _ _ _
  have g6 : Filled fx 6144 (kernelRun.sl.HXt_48 c fx f1) := by
    refine chunk_step (n := 5120) g5 ?_ ?_ ?_ ?_ ?_ ?_ ?_ ?_
    all_goals refine batch_load (c := c) ?_
    all_goals refine chunkIn_other (by decide) ?_
    all_goals exact chunkIn_here fx 1 5120 _ _ _ _ _ _
  have g7 : Filled fx 7168 (kernelRun.sl.HXt_56 c fx f1) := by
    refine chunk_step (n := 6144) g6 ?_ ?_ ?_ ?_ ?_ ?_ ?_ ?_
    all_goals refine batch_load (c := c) ?_
    all_goals refine chunkIn_other (by decide) ?_
    all_goals exact chunkIn_here fx 0 6144 _ _ _ _ _ _
  have g8 : Filled fx 8192 (kernelRun.sl.HXt_64 c fx f1) := by
    refine chunk_step (n := 7168) g7 ?_ ?_ ?_ ?_ ?_ ?_ ?_ ?_
    all_goals refine batch_load (c := c) ?_
    all_goals exact chunkIn_here fx 1 7168 _ _ _ _ _ _
  exact ⟨g8, g7, g6, g5, g4, g3, g2, g1⟩

set_option maxHeartbeats 1000000 in
/-! ## The eight row blocks of `transform` and their products -/

/-- Loaded from its slot as a matrix, the row block of `transform` from row `r`. -/
def Rows (T : S2048x8192.Idx → EReal) (r : ℕ) (t : S256x8192.Idx → EReal) : Prop := ∀ y : S256x8192.Idx, t y = tN T (r + (y 0).val) (y 1).val

/-- Each block's load finds its rows in its slot. -/
theorem rows8 :
    Rows ft 0 (shapeCast S256x8192 (kernelRun.sl.v84 c ft f2) shapeCasts_S1x256x8192_S256x8192) ∧
    Rows ft 256 (shapeCast S256x8192 (kernelRun.sl.v89 c ft f2) shapeCasts_S1x256x8192_S256x8192) ∧
    Rows ft 512 (shapeCast S256x8192 (kernelRun.sl.v675 c ft f2) shapeCasts_S1x256x8192_S256x8192) ∧
    Rows ft 768 (shapeCast S256x8192 (kernelRun.sl.v732 c ft f2) shapeCasts_S1x256x8192_S256x8192) ∧
    Rows ft 1024 (shapeCast S256x8192 (kernelRun.sl.v789 c ft f2) shapeCasts_S1x256x8192_S256x8192) ∧
    Rows ft 1280 (shapeCast S256x8192 (kernelRun.sl.v846 c ft f2) shapeCasts_S1x256x8192_S256x8192) ∧
    Rows ft 1536 (shapeCast S256x8192 (kernelRun.sl.v903 c ft f2) shapeCasts_S1x256x8192_S256x8192) ∧
    Rows ft 1792 (shapeCast S256x8192 (kernelRun.sl.v955 c ft f2) shapeCasts_S1x256x8192_S256x8192) := by
  refine ⟨?_, ?_, ?_, ?_, ?_, ?_, ?_, ?_⟩ <;> refine block_load (c := c) ?_
  · refine blockIn_other (by decide) ?_; exact blockIn_here ft 0 0 _ _ _ _ _ _
  · exact blockIn_here ft 1 256 _ _ _ _ _ _
  · refine blockIn_other (by decide) ?_; exact blockIn_here ft 2 512 _ _ _ _ _ _
  · refine blockIn_other (by decide) ?_; exact blockIn_here ft 0 768 _ _ _ _ _ _
  · refine blockIn_other (by decide) ?_; exact blockIn_here ft 1 1024 _ _ _ _ _ _
  · refine blockIn_other (by decide) ?_; exact blockIn_here ft 2 1280 _ _ _ _ _ _
  · refine blockIn_other (by decide) ?_; exact blockIn_here ft 0 1536 _ _ _ _ _ _
  · exact blockIn_here ft 1 1792 _ _ _ _ _ _

/-- A load of 1024 rows of the panel, from row `o`. -/
def Cols (X : S8x8192x128.Idx → EReal) (o : ℕ) (P : S1024x1024.Idx → EReal) : Prop :=
  ∀ y : S1024x1024.Idx, P y = xN X ((y 1).val / 128) (o + (y 0).val) ((y 1).val % 128)

set_option maxHeartbeats 1000000 in
/-- Each chunk's load finds its rows in the panel. -/
theorem cols8 :
    Cols fx 0 (kernelRun.sl.v83 c fx f1) ∧ Cols fx 1024 (kernelRun.sl.v152 c fx f1) ∧ Cols fx 2048 (kernelRun.sl.v223 c fx f1) ∧ Cols fx 3072 (kernelRun.sl.v294 c fx f1) ∧ Cols fx 4096 (kernelRun.sl.v365 c fx f1) ∧ Cols fx 5120 (kernelRun.sl.v436 c fx f1) ∧ Cols fx 6144 (kernelRun.sl.v507 c fx f1) ∧ Cols fx 7168 (kernelRun.sl.v573 c fx f1) := by
  obtain ⟨g8, g7, g6, g5, g4, g3, g2, g1⟩ := filled8 c fx f1
  exact ⟨panel_load (K := 1024) g1 (by omega) _, panel_load (K := 1024) g2 (by omega) _, panel_load (K := 1024) g3 (by omega) _, panel_load (K := 1024) g4 (by omega) _, panel_load (K := 1024) g5 (by omega) _, panel_load (K := 1024) g6 (by omega) _, panel_load (K := 1024) g7 (by omega) _, panel_load (K := 1024) g8 (by omega) _⟩

set_option maxHeartbeats 1000000 in
/-- Row block 0: its running product after each chunk, at last the whole contraction. -/
theorem acc0 : AccIs ft fx 0 8192 (kernelRun.sl.r_23 c ft fx f1 f2) := by
  obtain ⟨p0, p1, p2, p3, p4, p5, p6, p7⟩ := cols8 c fx f1
  have ht : Rows ft 0 (shapeCast S256x8192 (kernelRun.sl.v84 c ft f2) shapeCasts_S1x256x8192_S256x8192) := (rows8 c ft f2).1
  have a1 : AccIs ft fx 0 1024 (kernelRun.sl.r_1 c ft fx f1 f2) := acc_first ht p0
  have a2 : AccIs ft fx 0 2048 (kernelRun.sl.r_4 c ft fx f1 f2) := acc_step a1 ht p1
  have a3 : AccIs ft fx 0 3072 (kernelRun.sl.r_7 c ft fx f1 f2) := acc_step a2 ht p2
  have a4 : AccIs ft fx 0 4096 (kernelRun.sl.r_10 c ft fx f1 f2) := acc_step a3 ht p3
  have a5 : AccIs ft fx 0 5120 (kernelRun.sl.r_14 c ft fx f1 f2) := acc_step a4 ht p4
  have a6 : AccIs ft fx 0 6144 (kernelRun.sl.r_17 c ft fx f1 f2) := acc_step a5 ht p5
  have a7 : AccIs ft fx 0 7168 (kernelRun.sl.r_20 c ft fx f1 f2) := acc_step a6 ht p6
  exact acc_step a7 ht p7

set_option maxHeartbeats 1000000 in
/-- Row block 1: its running product after each chunk, at last the whole contraction. -/
theorem acc1 : AccIs ft fx 256 8192 (kernelRun.sl.r_24 c ft fx f1 f2) := by
  obtain ⟨p0, p1, p2, p3, p4, p5, p6, p7⟩ := cols8 c fx f1
  have ht : Rows ft 256 (shapeCast S256x8192 (kernelRun.sl.v89 c ft f2) shapeCasts_S1x256x8192_S256x8192) := (rows8 c ft f2).2.1
  have a1 : AccIs ft fx 256 1024 (kernelRun.sl.r_2 c ft fx f1 f2) := acc_first ht p0
  have a2 : AccIs ft fx 256 2048 (kernelRun.sl.r_5 c ft fx f1 f2) := acc_step a1 ht p1
  have a3 : AccIs ft fx 256 3072 (kernelRun.sl.r_8 c ft fx f1 f2) := acc_step a2 ht p2
  have a4 : AccIs ft fx 256 4096 (kernelRun.sl.r_11 c ft fx f1 f2) := acc_step a3 ht p3
  have a5 : AccIs ft fx 256 5120 (kernelRun.sl.r_15 c ft fx f1 f2) := acc_step a4 ht p4
  have a6 : AccIs ft fx 256 6144 (kernelRun.sl.r_18 c ft fx f1 f2) := acc_step a5 ht p5
  have a7 : AccIs ft fx 256 7168 (kernelRun.sl.r_21 c ft fx f1 f2) := acc_step a6 ht p6
  exact acc_step a7 ht p7

set_option maxHeartbeats 1000000 in
/-- Every later row block's product is the whole contraction at once. -/
theorem acc2_7 :
    AccIs ft fx 512 8192 (kernelRun.sl.r_26 c ft fx f1 f2) ∧ AccIs ft fx 768 8192 (kernelRun.sl.r_28 c ft fx f1 f2) ∧ AccIs ft fx 1024 8192 (kernelRun.sl.r_30 c ft fx f1 f2) ∧ AccIs ft fx 1280 8192 (kernelRun.sl.r_32 c ft fx f1 f2) ∧ AccIs ft fx 1536 8192 (kernelRun.sl.r_33 c ft fx f1 f2) ∧ AccIs ft fx 1792 8192 (kernelRun.sl.r_35 c ft fx f1 f2) := by
  have hP : ∀ y : S8192x1024.Idx, (kernelRun.sl.v678 c fx f1 y : EReal) = xN fx ((y 1).val / 128) (0 + (y 0).val) ((y 1).val % 128) :=
    panel_load (K := 8192) (filled8 c fx f1).1 (by omega) _
  obtain ⟨-, -, t2, t3, t4, t5, t6, t7⟩ := rows8 c ft f2
  exact ⟨acc_whole t2 hP, acc_whole t3 hP, acc_whole t4 hP, acc_whole t5 hP, acc_whole t6 hP, acc_whole t7 hP⟩

/-! ## The result -/

/-- A transferred block of 256 result rows from `r`. -/
def Block (T : S2048x8192.Idx → EReal) (X : S8x8192x128.Idx → EReal) (r : ℕ) (w : S8x256x128.Idx → EReal) : Prop :=
  ∀ y : S8x256x128.Idx, w y = part T X 8192 (y 0).val (r + (y 1).val) (y 2).val

set_option maxHeartbeats 1000000 in
/-- Each staged block of output rows, as its transfer reads it. -/
theorem blocks8 :
    Block ft fx 0 (kernelRun.sl.dma232 c ft fx f1 f2 f3) ∧ Block ft fx 256 (kernelRun.sl.dma248 c ft fx f1 f2 f3) ∧ Block ft fx 512 (kernelRun.sl.dma266 c ft fx f1 f2 f3) ∧ Block ft fx 768 (kernelRun.sl.dma284 c ft fx f1 f2 f3) ∧ Block ft fx 1024 (kernelRun.sl.dma302 c ft fx f1 f2 f3) ∧ Block ft fx 1280 (kernelRun.sl.dma320 c ft fx f1 f2 f3) ∧ Block ft fx 1536 (kernelRun.sl.dma338 c ft fx f1 f2 f3) ∧ Block ft fx 1792 (kernelRun.sl.dma356 c ft fx f1 f2 f3) := by
  have a0 := acc0 c ft fx f1 f2
  have a1 := acc1 c ft fx f1 f2
  obtain ⟨a2, a3, a4, a5, a6, a7⟩ := acc2_7 c ft fx f1 f2
  refine ⟨?_, ?_, ?_, ?_, ?_, ?_, ?_, ?_⟩
  · refine slot_out (c := c) (s := 0) ?_ ?_ ?_ ?_ ?_ ?_ ?_ ?_ <;> exact outPiece a0 rfl (by decide)
  · refine slot_out (c := c) (s := 1) ?_ ?_ ?_ ?_ ?_ ?_ ?_ ?_ <;> exact outPiece a1 rfl (by decide)
  · refine slot_out (c := c) (s := 0) ?_ ?_ ?_ ?_ ?_ ?_ ?_ ?_ <;> exact outPiece a2 rfl (by decide)
  · refine slot_out (c := c) (s := 1) ?_ ?_ ?_ ?_ ?_ ?_ ?_ ?_ <;> exact outPiece a3 rfl (by decide)
  · refine slot_out (c := c) (s := 0) ?_ ?_ ?_ ?_ ?_ ?_ ?_ ?_ <;> exact outPiece a4 rfl (by decide)
  · refine slot_out (c := c) (s := 1) ?_ ?_ ?_ ?_ ?_ ?_ ?_ ?_ <;> exact outPiece a5 rfl (by decide)
  · refine slot_out (c := c) (s := 0) ?_ ?_ ?_ ?_ ?_ ?_ ?_ ?_ <;> exact outPiece a6 rfl (by decide)
  · refine slot_out (c := c) (s := 1) ?_ ?_ ?_ ?_ ?_ ?_ ?_ ?_ <;> exact outPiece a7 rfl (by decide)

set_option maxHeartbeats 1000000 in
/-- After the run the result holds the whole contraction at every place. -/
theorem result_rows (t : Fin cfg0.N) : OutIs (c := c) ft fx 2048 (kernelRun c t ft fx fo f0 f1 f2 f3).1 := by
  obtain ⟨b0, b1, b2, b3, b4, b5, b6, b7⟩ := blocks8 c ft fx f1 f2 f3
  delta kernelRun
  dsimp only
  exact out_step (out_step (out_step (out_step (out_step (out_step (out_step (out_step (n := 0) out_nil b0) b1) b2) b3) b4) b5) b6) b7

end Cert.KernelIdeal.Hand

end
-- ==== Proof.Final.lean ====
module

public import proofs.«01_k».proof.Proof.Result
public import proofs.«01_k».proof.Proof.Gen.ReferenceIdeal.Run
public import Idealize.ShloMosaic.Lib.Quiescent

/-!
  The two runs over the reals, side by side: the kernel ends with the whole contraction in its result, and so does the
  reference.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

/-- The contraction of `transform` with `x` over all 8192 rows of `x`, as an array of results. -/
def product (T : S2048x8192.Idx → EReal) (X : S8x8192x128.Idx → EReal) : S8x2048x128.Idx → EReal :=
  fun y => part T X 8192 (y 0).val (y 1).val (y 2).val

/-! ## The kernel -/

variable (m : (ℓ : Loc nD τ sig) → Buf (Elt Ideal) ℓ) (ρ : Dev nD → PrngReg)

/-- What each core's buffers end at: the result at the product of the arguments, everything else as at the start. -/
def ends (c : Dev nD) : (b : Ref sig .tc) → Buf (Elt Ideal) ((c.tc : Thread nD τ).loc b) :=
  Function.update (V m c) main_v0 (product (V m c main_arg1) (V m c main_arg0))

/-- The result buffer ends at the product. -/
theorem ends_result (c : Dev nD) :
    ends m c main_v0 = product (m ((c.tc : Thread nD τ).loc main_arg1)) (m ((c.tc : Thread nD τ).loc main_arg0)) :=
  Function.update_self ..

/-- The body's run leaves the product in the result, whatever the result and the scratch buffers held before. -/
theorem names : Names m (ends m) := fun c t f0 f1 f2 f3 => by
  refine Eq.trans ?_ (ends_result m c).symm
  have h := result_rows c (V m c main_arg1) (V m c main_arg0) (V m c main_v0) f0 f1 f2 f3 t
  funext y
  exact h y (y 1).isLt

/-- The kernel terminates with the product in its result, its arguments unchanged and every counter at zero. -/
theorem kernel_value : θ_run defs (onTc (τ := τ) (main (F := Ideal))) ⟨m, fun _ => 0, ρ⟩ (fun r => (∀ c : Dev nD,
      r.2.mem ((c.tc : Thread nD τ).loc main_v0) = product (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1.trans (ends_result m c), (h.1 c).2⟩, h.2⟩) (value m ρ (ends m) (names m))

end Cert.KernelIdeal.Hand

namespace Cert.ReferenceIdeal.Hand

open Cert.ReferenceIdeal Cert.ReferenceIdeal.Gen
open Idealize.ShloMosaic Idealize.ShloMosaic.TcCoe Idealize.ShloMosaic.ValueIdx
open Idealize.SL Idealize.SL.Sem
open Cert.KernelIdeal.Hand (product part tN xN tN_eq xN_eq)
open scoped BigOperators

/-- The contraction as the reference asks for it. -/
abbrev dims : DotDims S8x8192x128 S2048x8192 S8x128x2048 := dot_S8x8192x128_S2048x8192_S8x128x2048_1_1_02_0_n_n

/-- One entry of the reference's contraction, before its last two axes change places, is the sum the kernel computes. -/
theorem dot_entry (X : FVec Ideal S8x8192x128 .f32) (T : FVec Ideal S2048x8192 .f32) (j : S8x128x2048.Idx) :
    (Host.dotGeneral dims none X T j : EReal) = part T X 8192 (j 0).val (j 2).val (j 1).val := by
  show FloatOps.dotGeneral dims none _ X T j = _
  rw [Ideal.dotGeneral_apply, ← Equiv.sum_comp (contrEquiv1 dims 8192 rfl rfl).symm]
  unfold part
  rw [Finset.sum_range]
  refine Finset.sum_congr rfl fun k _ => ?_
  have hk := contrEquiv1_symm_val dims 8192 rfl rfl k
  refine (mul_comm _ _).trans (congrArg₂ (· * ·) (tN_eq T _ ?_ ?_) (xN_eq X _ ?_ ?_ ?_))
  · simp [DotDims.rhsIdx, dims, dot_S8x8192x128_S2048x8192_S8x128x2048_1_1_02_0_n_n]; rfl
  · simp [DotDims.rhsIdx, dims, dot_S8x8192x128_S2048x8192_S8x128x2048_1_1_02_0_n_n]; exact hk
  · simp [DotDims.lhsIdx, dims, dot_S8x8192x128_S2048x8192_S8x128x2048_1_1_02_0_n_n]; rfl
  · simp [DotDims.lhsIdx, dims, dot_S8x8192x128_S2048x8192_S8x128x2048_1_1_02_0_n_n]; exact hk
  · simp [DotDims.lhsIdx, dims, dot_S8x8192x128_S2048x8192_S8x128x2048_1_1_02_0_n_n]; rfl

/-- The reference's result, as an array, is the product. -/
theorem result_eq (X : FVec Ideal S8x8192x128 .f32) (T : FVec Ideal S2048x8192 .f32) :
    transpose S8x2048x128 [0, 2, 1] (Host.dotGeneral dims none X T) transposes_S8x128x2048_S8x2048x128_0_2_1 = product T X := by
  funext y
  refine (transpose_apply [0, 2, 1] _ transposes_S8x128x2048_S8x2048x128_0_2_1 y
    (ix3 (⟨(y 0).val, (y 0).isLt⟩ : Fin 8) (⟨(y 2).val, (y 2).isLt⟩ : Fin 128) (⟨(y 1).val, (y 1).isLt⟩ : Fin 2048)) ?_).trans (dot_entry X T _)
  intro a
  match a with
  | ⟨0, _⟩ => rfl
  | ⟨1, _⟩ => rfl
  | ⟨2, _⟩ => rfl

variable (m : (ℓ : Loc nD τ sig) → Buf (Elt Ideal) ℓ) (ρ : Dev nD → PrngReg)

/-- The reference terminates with the product in its result, its arguments unchanged and every counter at zero. -/
theorem reference_value : θ_run defs (onTc (τ := τ) (main (F := Ideal))) ⟨m, fun _ => 0, ρ⟩ (fun r => (∀ c : Dev nD,
      r.2.mem ((c.tc : Thread nD τ).loc main_v1) = product (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c).1.trans (result_eq _ _), (h c).2⟩, sem_eq_zero_of_no_sems (by decide) r.2⟩)
    (Value.run (F := Ideal) m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.Final
public import Idealize.ShloMosaic.Adequacy
public import Idealize.ShloMosaic.Init

@[expose] public section

noncomputable section

namespace Cert.Proof

open Idealize.ShloMosaic Idealize.SL.Sem Cert.Kernel

/-- The kernel's frame, at the machine's own floats. -/
theorem frame_kernel : Cert.quiescent_Kernel := fun m ρ _ => Cert.Kernel.Hand.frame m ρ

/-- The kernel's frame over the reals. -/
theorem frame_kernel_ideal : Cert.quiescent_KernelIdeal := fun m ρ _ =>
  (θ_run Cert.KernelIdeal.defs _ _).mono (fun _ h => ⟨fun c => (h.1 c).2, h.2⟩) (Cert.KernelIdeal.Hand.kernel_value m ρ)

/-- The reference's frame over the reals. -/
theorem frame_reference : Cert.quiescent_ReferenceIdeal := fun m ρ _ =>
  (θ_run Cert.ReferenceIdeal.defs _ _).mono (fun _ h => ⟨fun c => (h.1 c).2, h.2⟩) (Cert.ReferenceIdeal.Hand.reference_value m ρ)

/-- Over the reals the kernel and the reference end with the same result. -/
theorem same_result : Cert.algebraic_KernelIdeal_ReferenceIdeal := fun m ρ m' ρ' _ hm =>
  ⟨_, (θ_run Cert.KernelIdeal.defs _ _).mono (fun _ h => h.1) (Cert.KernelIdeal.Hand.kernel_value m ρ),
    (θ_run Cert.ReferenceIdeal.defs _ _).mono
      (fun _ h c => ⟨(h.1 c).1.trans (congrArg₂ Cert.KernelIdeal.Hand.product (hm c).2 (hm c).1), (h.1 c).2⟩)
      (Cert.ReferenceIdeal.Hand.reference_value m' ρ')⟩

/-- All five claims. -/
theorem claim : Cert.Claim := ⟨Cert.Kernel.Gen.facts, Cert.KernelIdeal.Gen.facts, Cert.ReferenceIdeal.Gen.facts,
  frame_kernel, frame_kernel_ideal, frame_reference, trivial, same_result⟩

end Cert.Proof

end
